-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S4x8192 : Shape := ⟨2, ![4, 8192]⟩
abbrev S1024x1 : Shape := ⟨2, ![1024, 1]⟩
abbrev S1024 : Shape := ⟨1, ![1024]⟩
abbrev S32768x1024 : Shape := ⟨2, ![32768, 1024]⟩
abbrev S32768x1 : Shape := ⟨2, ![32768, 1]⟩
abbrev S1x1024 : Shape := ⟨2, ![1, 1024]⟩
abbrev S512x1 : Shape := ⟨2, ![512, 1]⟩
abbrev S512x1024 : Shape := ⟨2, ![512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .f32⟩
  | .hbm, ⟨2, _⟩ => ⟨S4x8192, .i1⟩
  | .hbm, ⟨3, _⟩ => ⟨S1024x1, .f32⟩
  | .hbm, ⟨4, _⟩ => ⟨S1024, .f32⟩
  | .hbm, ⟨5, _⟩ => ⟨S32768x1024, .f32⟩
  | .hbm, ⟨6, _⟩ => ⟨S32768x1, .f32⟩
  | .hbm, ⟨7, _⟩ => ⟨S32768x1, .i1⟩
  | .hbm, ⟨8, _⟩ => ⟨S32768x1, .i32⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S4x8192x1024, .f32⟩
  | .local _ .vmem, ⟨0, _⟩ => ⟨S512x1, .f32⟩
  | .local _ .vmem, ⟨1, _⟩ => ⟨S512x1, .f32⟩
  | .local _ .vmem, ⟨2, _⟩ => ⟨S512x1, .i32⟩
  | .local _ .vmem, ⟨3, _⟩ => ⟨S512x1, .i32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x8192x1024 : Shape := ⟨3, ![4, 8192, 1024]⟩
abbrev S4x8192 : Shape := ⟨2, ![4, 8192]⟩
abbrev S1024x1 : Shape := ⟨2, ![1024, 1]⟩
abbrev S1024 : Shape := ⟨1, ![1024]⟩
abbrev S4x8192x1 : Shape := ⟨3, ![4, 8192, 1]⟩
abbrev S1x1024 : Shape := ⟨2, ![1, 1024]⟩
abbrev S1x1x1024 : Shape := ⟨3, ![1, 1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .f32⟩
  | .hbm, ⟨2, _⟩ => ⟨S4x8192, .i1⟩
  | .hbm, ⟨3, _⟩ => ⟨S1024x1, .f32⟩
  | .hbm, ⟨4, _⟩ => ⟨S1024, .f32⟩
  | .hbm, ⟨5, _⟩ => ⟨S4x8192x1, .f32⟩
  | .hbm, ⟨6, _⟩ => ⟨S1x1024, .f32⟩
  | .hbm, ⟨7, _⟩ => ⟨S4x8192x1024, .f32⟩
  | .hbm, ⟨8, _⟩ => ⟨S1x1x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192x1024, .f32⟩
  | .hbm, ⟨13, _⟩ => ⟨S4x8192x1024, .f32⟩
  | .hbm, ⟨14, _⟩ => ⟨S4x8192x1, .i1⟩
  | .hbm, ⟨15, _⟩ => ⟨S4x8192x1024, .i1⟩
  | .hbm, ⟨16, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pointwise
public import Idealize.ShloMosaic.PureOps.Ideal

@[expose] public section

set_option maxRecDepth 16384

noncomputable section

namespace Cert.Embed

open Idealize.ShloMosaic Idealize.ShloMosaic.TcCoe Idealize.SL.Sem
open Idealize.ShloMosaic.Pointwise
open Cert.KernelIdeal Cert.KernelIdeal.Gen

/-- One element of the result: where the mask bit is set the embedded number `max (n * w + b) 0`, elsewhere the old
    entry `x`. -/
def elem (k : BitVec 1) (n w b x : Ideal .f32) : Ideal .f32 := Scalar.select k (max (n * w + b) 0) x

/-- The kernel's test: a one-bit mask widened to 32 bits is above zero exactly when the bit is set. -/
theorem widened_pos (k : BitVec 1) : IntOp.cmpi .sgt (k.setWidth 32) 0#32 = k := by revert k; decide

/-- The block the body stores, read at row `r` and column `e`: one element built from the row's number and mask, the
    column's weight and bias, and the old entry. -/
theorem pay_apply (n : Vec Ideal S512x1 .f32) (k : Vec Ideal S512x1 .i32) (x : Vec Ideal S512x1024 .f32)
    (w b : Vec Ideal S1x1024 .f32) (r : Fin 512) (e : Fin 1024) :
    k0_pay1 n k x w b (ix2 r e)
      = elem (IntOp.cmpi .sgt (k (ix2 r 0)) 0#32) (n (ix2 r 0)) (w (ix2 0 e)) (b (ix2 0 e)) (x (ix2 r e)) := by
  pointwise [k0_pay1, elem]

end Cert.Embed
-- ==== Proof.Array.lean ====
module

public import proofs.«01_k».proof.Proof.Block
public import Idealize.ShloMosaic.Lib.Pipeline.Value
public import Idealize.ShloMosaic.Lib.Pipeline.ValueKit
public import Idealize.ShloMosaic.Lib.Claim

@[expose] public section

set_option maxRecDepth 16384

noncomputable section

namespace Cert.Embed

open Idealize.ShloMosaic Idealize.ShloMosaic.TcCoe Idealize.SL.Sem
open Idealize.ShloMosaic.Pointwise
open Idealize.ShloMosaic.Pipeline (Dat)
open Cert.KernelIdeal Cert.KernelIdeal.Gen

variable (m : (ℓ : Loc nD τ sig) → Buf (Elt Ideal) ℓ)

/-- The array the call leaves, as one function of its five operands: entry `(r, e)` is the element built from row `r`
    of the numbers and masks and column `e` of the weights and biases. -/
def rows (n : Vec Ideal S32768x1 .f32) (k : Vec Ideal S32768x1 .i32) (x : Vec Ideal S32768x1024 .f32)
    (w b : Vec Ideal S1x1024 .f32) : Vec Ideal S32768x1024 .f32 := fun i =>
  elem (IntOp.cmpi .sgt (k (ix2 (i 0) 0)) 0#32) (n (ix2 (i 0) 0)) (w (ix2 0 (i 1))) (b (ix2 0 (i 1))) (x i)

/-- The offsets of a whole-block access are zero on both axes. -/
theorem offsets_zero : (![0, 0] : Fin 2 → Nat) = fun _ => 0 := funext fun a => by fin_cases a <;> rfl

/-- After the whole grid the result array is `rows` of the operands: the 64 row blocks cover it, and each block holds
    what the body computed from the operands' blocks of the same point. -/
theorem final (c : Dev nD) : (dats m 0 c).arrAt 5 cfg0.N
    = rows (V m c main_v1) (V m c main_v3) (V m c main_v0) (V m c main_v4) (V m c main_v5) := by
  refine (dats m 0 c).arrAt_eq_of_covers 5 _ (by decide +kernel) fun t hf y => ?_
  blk_simp
  rw [after0_5]
  unfold out0_5
  rw [View.canon_unit_zero offsets_zero, View.ld_unit_zero offsets_zero, View.ld_unit_zero offsets_zero,
    View.ld_unit_zero offsets_zero, View.ld_unit_zero offsets_zero, View.ld_unit_zero offsets_zero]
  idx_vars y
  rw [pay_apply]
  unfold rows
  rfl

/-- The call's old entries: the first argument with its batch and sequence axes merged. -/
theorem entry_x (c : Dev nD) : V m c main_v0
    = shapeCast S32768x1024 (m ((c : Thread nD τ).loc main_arg0)) shapeCasts_S4x8192x1024_S32768x1024 := by
  unfold_abbrev_sides
  simp only [hostOps0, List.flatten_cons, List.flatten_nil, List.append_nil]
  after_results
  rfl

/-- The call's numbers: the second argument as one column. -/
theorem entry_n (c : Dev nD) : V m c main_v1
    = shapeCast S32768x1 (m ((c : Thread nD τ).loc main_arg1)) shapeCasts_S4x8192_S32768x1 := by
  unfold_abbrev_sides
  simp only [hostOps0, List.flatten_cons, List.flatten_nil, List.append_nil]
  after_results
  rfl

/-- The call's masks: the third argument as one column, each bit widened to 32 bits. -/
theorem entry_k (c : Dev nD) : V m c main_v3
    = extui 32 (shapeCast S32768x1 (m ((c : Thread nD τ).loc main_arg2)) shapeCasts_S4x8192_S32768x1) natLt_1_32 := by
  unfold_abbrev_sides
  simp only [hostOps0, List.flatten_cons, List.flatten_nil, List.append_nil]
  after_results
  rfl

/-- The call's weights: the fourth argument's column laid out as a row. -/
theorem entry_w (c : Dev nD) : V m c main_v4
    = shapeCast S1x1024 (m ((c : Thread nD τ).loc main_arg3)) shapeCasts_S1024x1_S1x1024 := by
  unfold_abbrev_sides
  simp only [hostOps0, List.flatten_cons, List.flatten_nil, List.append_nil]
  after_results
  rfl

/-- The call's biases: the fifth argument as a row. -/
theorem entry_b (c : Dev nD) : V m c main_v5
    = shapeCast S1x1024 (m ((c : Thread nD τ).loc main_arg4)) shapeCasts_S1024_S1x1024 := by
  unfold_abbrev_sides
  simp only [hostOps0, List.flatten_cons, List.flatten_nil, List.append_nil]
  after_results
  rfl

/-- The kernel's result as a function of its arguments: the merged arguments through `rows`, the row axis split
    again. -/
def result (x : Vec Ideal S4x8192x1024 .f32) (n : Vec Ideal S4x8192 .f32) (k : Vec Ideal S4x8192 .i1)
    (w : Vec Ideal S1024x1 .f32) (b : Vec Ideal S1024 .f32) : Vec Ideal S4x8192x1024 .f32 :=
  shapeCast S4x8192x1024
    (rows (shapeCast S32768x1 n shapeCasts_S4x8192_S32768x1)
      (extui 32 (shapeCast S32768x1 k shapeCasts_S4x8192_S32768x1) natLt_1_32)
      (shapeCast S32768x1024 x shapeCasts_S4x8192x1024_S32768x1024)
      (shapeCast S1x1024 w shapeCasts_S1024x1_S1x1024) (shapeCast S1x1024 b shapeCasts_S1024_S1x1024))
    shapeCasts_S32768x1024_S4x8192x1024

/-- The result buffer after the reshape that follows the call. -/
theorem tail (c : Dev nD) : Pipeline.afterTail₀ cfgs (dats m) 0 (V0 m) [hostOps1] c main_v7
    = result (m ((c : Thread nD τ).loc main_arg0)) (m ((c : Thread nD τ).loc main_arg1))
        (m ((c : Thread nD τ).loc main_arg2)) (m ((c : Thread nD τ).loc main_arg3))
        (m ((c : Thread nD τ).loc main_arg4)) := by
  have array : Pipeline.withArrays spec0 c (V0 m c) (fun w => (dats m 0 c).arrAt w cfg0.N) (Proc.devRef .tc main_v6)
      = (dats m 0 c).arrAt 5 cfg0.N := Pipeline.withArrays_arr spec0 launch0.win.arr_inj c (V0 m c) _ 5
  rw [final, entry_x, entry_n, entry_k, entry_w, entry_b] at array
  unfold Pipeline.afterTail₀
  simp only [hostOps1, List.flatten_cons, List.flatten_nil, List.append_nil]
  after_results
  exact congrArg (fun v => shapeCast S4x8192x1024 v shapeCasts_S32768x1024_S4x8192x1024) array

/-- Every run of the kernel ends with `result` of the arguments in the result buffer and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
        = result (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Embed
-- ==== Proof.Reference.lean ====
module

public import proofs.«01_k».proof.Proof.Block
public import proofs.«01_k».proof.Proof.Gen.ReferenceIdeal.Run
public import Idealize.ShloMosaic.Lib.IdealHost

@[expose] public section

set_option maxRecDepth 16384

noncomputable section

namespace Cert.Embed

open Idealize.ShloMosaic Idealize.ShloMosaic.TcCoe Idealize.SL.Sem
open Idealize.ShloMosaic.Pointwise
open Cert.ReferenceIdeal Cert.ReferenceIdeal.Gen

/-- The reference's result as a function of its arguments: the composed term of its operations. -/
def expected (x : Vec Ideal S4x8192x1024 .f32) (n : Vec Ideal S4x8192 .f32) (k : Vec Ideal S4x8192 .i1)
    (w : Vec Ideal S1024x1 .f32) (b : Vec Ideal S1024 .f32) : Vec Ideal S4x8192x1024 .f32 :=
  select
    (broadcastInDim S4x8192x1024 ![0, 1, 2] bcast_S4x8192x1_S4x8192x1024_0_1_2
      (broadcastInDim S4x8192x1 ![0, 1] bcast_S4x8192_S4x8192x1_0_1 k))
    (maximumf
      (addf
        (Host.dotGeneral (F := Ideal) (φ₁ := .f32) (φ₂ := .f32) dot_S4x8192x1_S1x1024_S4x8192x1024_2_0_01_1_n_n none
          (broadcastInDim S4x8192x1 ![0, 1] bcast_S4x8192_S4x8192x1_0_1 n)
          (transpose S1x1024 [1, 0] w transposes_S1024x1_S1x1024_1_0))
        (broadcastInDim S4x8192x1024 ![0, 1, 2] bcast_S1x1x1024_S4x8192x1024_0_1_2
          (broadcastInDim S1x1x1024 ![2] bcast_S1024_S1x1x1024_2 b)))
      (broadcastInDim S4x8192x1024 ![] bcast_S_S4x8192x1024 (constant S_ .f32 0x00000000#32)))
    x

/-- The reference read at an index: the contraction has one term, so it is the product of the number and the weight. -/
theorem expected_apply (x : Vec Ideal S4x8192x1024 .f32) (n : Vec Ideal S4x8192 .f32) (k : Vec Ideal S4x8192 .i1)
    (w : Vec Ideal S1024x1 .f32) (b : Vec Ideal S1024 .f32) (g : Fin 4) (s : Fin 8192) (e : Fin 1024) :
    expected x n k w b (ix3 g s e)
      = elem (k (ix2 g s)) (n (ix2 g s)) (w (ix2 e 0)) (b (ix1 e)) (x (ix3 g s e)) := by
  pointwise [expected, elem]
  rw [Fin.sum_univ_one]

end Cert.Embed
-- ==== Proof.Equation.lean ====
module

public import proofs.«01_k».proof.Proof.Array
public import proofs.«01_k».proof.Proof.Reference

@[expose] public section

set_option maxRecDepth 16384

noncomputable section

namespace Cert.Embed

open Idealize.ShloMosaic Idealize.ShloMosaic.TcCoe Idealize.SL.Sem
open Idealize.ShloMosaic.Pointwise
open Cert.KernelIdeal Cert.KernelIdeal.Gen

/-- The kernel's result read at an index: merging the batch and sequence axes and splitting them again meets the same
    batch and position, and the widened mask tests as the bit itself. -/
theorem result_apply (x : Vec Ideal S4x8192x1024 .f32) (n : Vec Ideal S4x8192 .f32) (k : Vec Ideal S4x8192 .i1)
    (w : Vec Ideal S1024x1 .f32) (b : Vec Ideal S1024 .f32) (g : Fin 4) (s : Fin 8192) (e : Fin 1024) :
    result x n k w b (ix3 g s e)
      = elem (k (ix2 g s)) (n (ix2 g s)) (w (ix2 e 0)) (b (ix1 e)) (x (ix3 g s e)) := by
  pointwise [result, rows]
  rw [widened_pos]

/-- The kernel and the reference compute the same array from the same arguments. -/
theorem result_eq_expected (x : Vec Ideal S4x8192x1024 .f32) (n : Vec Ideal S4x8192 .f32) (k : Vec Ideal S4x8192 .i1)
    (w : Vec Ideal S1024x1 .f32) (b : Vec Ideal S1024 .f32) : result x n k w b = expected x n k w b := by
  funext j
  idx_vars j
  exact (result_apply x n k w b _ _ _).trans (expected_apply x n k w b _ _ _).symm

end Cert.Embed
-- ==== Proof.lean ====
module

public import proofs.«01_k».proof.Defs
public import proofs.«01_k».proof.Proof.Gen.ReferenceIdeal.Run
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference terminates, leaves its arguments unchanged and its counters at zero: it has no semaphores. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel and the reference end with the same result array: both end with `result` of the
    kernel's arguments. -/
theorem algebraic : Cert.algebraic_KernelIdeal_ReferenceIdeal (hKernelIdeal := Cert.KernelIdeal.Gen.facts)
    (hReferenceIdeal := Cert.ReferenceIdeal.Gen.facts) := fun m g m' g' _ hargs =>
  ⟨_, Cert.Embed.kernel_run m g, (θ_run Cert.ReferenceIdeal.defs _ _).mono
    (fun r h c => by
      obtain ⟨h0, h1, h2, h3, h4⟩ := hargs c
      refine ⟨(h c).1.trans ?_, (h c).2⟩
      rw [h0, h1, h2, h3, h4]
      exact (Cert.Embed.result_eq_expected _ _ _ _ _).symm)
    (Cert.ReferenceIdeal.Value.run (F := Ideal) m' g')⟩

/-- The five claims: the three frames, the kernel's idealization, and the equation of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    algebraic⟩

end Cert.Proof

end
